-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v27) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S1x8192x768 : Shape := ⟨3, ![1, 8192, 768]⟩
abbrev S8192x768 : Shape := ⟨2, ![8192, 768]⟩
abbrev S8192x4 : Shape := ⟨2, ![8192, 4]⟩
abbrev S4x8192x768 : Shape := ⟨3, ![4, 8192, 768]⟩
abbrev S1024x4 : Shape := ⟨2, ![1024, 4]⟩
abbrev S1024x768 : Shape := ⟨2, ![1024, 768]⟩
abbrev S4x1024x768 : Shape := ⟨3, ![4, 1024, 768]⟩
abbrev S1024x1 : Shape := ⟨2, ![1024, 1]⟩
abbrev S1x1024x768 : Shape := ⟨3, ![1, 1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4x8192, .i32⟩
  | .hbm, ⟨1, _⟩ => ⟨S1x8192x768, .f32⟩
  | .hbm, ⟨2, _⟩ => ⟨S8192x768, .f32⟩
  | .hbm, ⟨3, _⟩ => ⟨S8192x4, .i32⟩
  | .hbm, ⟨4, _⟩ => ⟨S4x8192x768, .f32⟩
  | .local _ .vmem, ⟨0, _⟩ => ⟨S1024x4, .i32⟩
  | .local _ .vmem, ⟨1, _⟩ => ⟨S1024x4, .i32⟩
  | .local _ .vmem, ⟨2, _⟩ => ⟨S1024x768, .f32⟩
  | .local _ .vmem, ⟨3, _⟩ => ⟨S1024x768, .f32⟩
  | .local _ .vmem, ⟨4, _⟩ => ⟨S4x1024x768, .f32⟩
  | .local _ .vmem, ⟨5, _⟩ => ⟨S4x1024x768, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x8192 : Shape := ⟨2, ![4, 8192]⟩
abbrev S1x8192x768 : Shape := ⟨3, ![1, 8192, 768]⟩
abbrev S1x1x1x8192x1x768 : Shape := ⟨6, ![1, 1, 1, 8192, 1, 768]⟩
abbrev S4x1x1x8192x1x768 : Shape := ⟨6, ![4, 1, 1, 8192, 1, 768]⟩
abbrev S4x8192x768 : Shape := ⟨3, ![4, 8192, 768]⟩
abbrev S8192 : Shape := ⟨1, ![8192]⟩
abbrev S4 : Shape := ⟨1, ![4]⟩
abbrev S4x1 : Shape := ⟨2, ![4, 1]⟩
abbrev S_ : Shape := ⟨0, ![]⟩
abbrev S4x8192x1 : Shape := ⟨3, ![4, 8192, 1]⟩
abbrev S4x8192x2 : Shape := ⟨3, ![4, 8192, 2]⟩

abbrev nBuf : Space → Nat
  | .hbm => 35
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S1x8192x768, .f32⟩
  | .hbm, ⟨2, _⟩ => ⟨S1x1x1x8192x1x768, .f32⟩
  | .hbm, ⟨3, _⟩ => ⟨S4x1x1x8192x1x768, .f32⟩
  | .hbm, ⟨4, _⟩ => ⟨S4x8192x768, .f32⟩
  | .hbm, ⟨5, _⟩ => ⟨S8192, .i32⟩
  | .hbm, ⟨6, _⟩ => ⟨S4, .i32⟩
  | .hbm, ⟨7, _⟩ => ⟨S4x1, .i32⟩
  | .hbm, ⟨8, _⟩ => ⟨S_, .i32⟩
  | .hbm, ⟨9, _⟩ => ⟨S4x1, .i32⟩
  | .hbm, ⟨10, _⟩ => ⟨S4x1, .i1⟩
  | .hbm, ⟨11, _⟩ => ⟨S_, .i32⟩
  | .hbm, ⟨12, _⟩ => ⟨S4x1, .i32⟩
  | .hbm, ⟨13, _⟩ => ⟨S4x1, .i32⟩
  | .hbm, ⟨14, _⟩ => ⟨S4x1, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S4x8192, .i32⟩
  | .hbm, ⟨23, _⟩ => ⟨S4x8192, .i32⟩
  | .hbm, ⟨24, _⟩ => ⟨S4x8192x1, .i32⟩
  | .hbm, ⟨25, _⟩ => ⟨S4x8192x1, .i32⟩
  | .hbm, ⟨26, _⟩ => ⟨S4x8192x2, .i32⟩
  | .hbm, ⟨27, _⟩ => ⟨S4x8192x768, .f32⟩
  | .hbm, ⟨28, _⟩ => ⟨S_, .i32⟩
  | .hbm, ⟨29, _⟩ => ⟨S4x8192, .i32⟩
  | .hbm, ⟨30, _⟩ => ⟨S4x8192, .i1⟩
  | .hbm, ⟨31, _⟩ => ⟨S4x8192x1, .i1⟩
  | .hbm, ⟨32, _⟩ => ⟨S4x8192x1, .f32⟩
  | .hbm, ⟨33, _⟩ => ⟨S4x8192x768, .f32⟩
  | .hbm, ⟨34, _⟩ => ⟨S4x8192x768, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Masked.lean ====
/-
  The function the certificate is about, and what one block of the kernel computes.

  `masked sym pe` is the positional encoding repeated over the batch, zeroed where the symbol is the padding
  index 0: element (b, l, d) is pe[0, l, d] times the 0/1 value of "sym[b, l] ≠ 0". It is stated at any float
  instance. `out_eq` reads the kernel body's output block at an index: the same product, of the block of the
  transposed symbols and the block of the encoding.
-/
module

public import proofs.«01_k».proof.Proof.Gen.KernelIdeal.Value
public import Idealize.ShloMosaic.Lib.Pointwise
public import Idealize.ShloMosaic.PureOps.BitExact
public import Idealize.ShloMosaic.PureOps.Ideal

@[expose] public section

noncomputable section

namespace Cert.Masked

open Idealize.ShloMosaic

variable {F : FTy → Type} [FloatOps F]

/-- The element of the result from an encoding value `p` and a symbol `s`: `p` times 1 where `s` is not the padding
    index 0, times 0 where it is. The 0/1 value is the comparison's bit widened to a word and converted, as a
    kernel's vector unit does it. -/
def elem (p : F .f32) (s : BitVec 32) : F .f32 :=
  FloatOps.mulf p (FloatOps.sitofp .f32 ((IntOp.cmpi .ne s 0#32).setWidth 32))

/-- THE RESULT: element (b, l, d) is the encoding's (0, l, d) masked by the symbol (b, l). -/
def masked (sym : (⟨2, ![4, 8192]⟩ : Shape).Idx → BitVec 32) (pe : (⟨3, ![1, 8192, 768]⟩ : Shape).Idx → F .f32) :
    (⟨3, ![4, 8192, 768]⟩ : Shape).Idx → F .f32 :=
  fun i => elem (pe (ix3 (0 : Fin 1) (i 1) (i 2))) (sym (ix2 (i 0) (i 1)))

/-! ## One block -/

open Cert.KernelIdeal Cert.KernelIdeal.Gen

/-- One batch row's store, at an index: the encoding block's element masked by the symbol column's. -/
theorem pay_apply (v : Vec F S1024x768 .f32) (w : Vec F S1024x1 .i32) (x : S1x1024x768.Idx) :
    k0_pay3 v w x = elem (v (ix2 (x 1) (x 2))) (w (ix2 (x 1) (0 : Fin 1))) := by
  pointwise [k0_pay3, k0_pay2, elem]

/-- The block the body leaves at a point, as a function of the two input blocks: element (b, r, d) is the encoding
    block's (r, d) masked by the symbol block's (r, b). -/
def block (x0 : Vec F S1024x4 .i32) (x1 : Vec F S1024x768 .f32) : Vec F S4x1024x768 .f32 :=
  fun y => elem (x1 (ix2 (y 1) (y 2))) (x0 (ix2 (y 1) (y 0)))

/-- `block` under the rectangle of batch row `b`: the encoding block masked by the symbol block's column `b`. -/
theorem block_row (x0 : Vec F S1024x4 .i32) (x1 : Vec F S1024x768 .f32) (b : Fin 4)
    (inb : ∀ a, (![b.val, 0, 0] : Fin 3 → Nat) a + S1x1024x768.size a ≤ S4x1024x768.size a)
    (x : (Rect.unit (s := S4x1024x768) ![b.val, 0, 0] S1x1024x768.size inb).shape.Idx) :
    block x0 x1 ((Rect.unit (s := S4x1024x768) ![b.val, 0, 0] S1x1024x768.size inb).emb x)
      = elem (x1 (ix2 (x 1) (x 2))) (x0 (ix2 (x 1) b)) := by
  have e : (Rect.unit (s := S4x1024x768) ![b.val, 0, 0] S1x1024x768.size inb).emb x = ix3 b (x 1) (x 2) := by
    have h0 : (x 0 : Nat) < 1 := (x 0).isLt
    refine funext fun a => Fin.ext ?_
    match a with
    | ⟨0, _⟩ => show b.val + 1 * (x 0 : Nat) = b.val; omega
    | ⟨1, _⟩ => show 0 + 1 * (x 1 : Nat) = (x 1 : Nat); omega
    | ⟨2, _⟩ => show 0 + 1 * (x 2 : Nat) = (x 2 : Nat); omega
  rw [e]
  rfl

/-- The body's four stores, one per batch row, together leave `block` in the output's staging buffer. -/
theorem out_eq (x0 : Vec F S1024x4 .i32) (x1 : Vec F S1024x768 .f32) : out0_2 x0 x1 = block x0 x1 := by
  funext y
  refine View.canon_apply_of_pieces (block x0 x1) _ ?_ y (cover0_2 _ _ _ _ y)
  have e1 : ∀ (v : Vec F S1024x768 .f32) (w : Vec F S1024x1 .i32), k0_pay1 (k0_pay2 v) w = k0_pay3 v w := fun _ _ => rfl
  have e4 : ∀ (v : Vec F S1024x768 .f32) (w : Vec F S1024x1 .i32), k0_pay4 v w = k0_pay3 v w := fun _ _ => rfl
  have e5 : ∀ (v : Vec F S1024x768 .f32) (w : Vec F S1024x1 .i32), k0_pay5 v w = k0_pay3 v w := fun _ _ => rfl
  simp only [List.forall_mem_cons, e1, e4, e5, pay_apply]
  refine ⟨fun x => ?_, fun x => ?_, fun x => ?_, fun x => ?_, by simp⟩
  · pointwise []; exact (block_row x0 x1 3 _ x).symm
  · pointwise []; exact (block_row x0 x1 2 _ x).symm
  · pointwise []; exact (block_row x0 x1 1 _ x).symm
  · pointwise []; exact (block_row x0 x1 0 _ x).symm

end Cert.Masked

end
-- ==== Proof.Array.lean ====
/-
  What the kernel's result array holds after the run: `masked` of the two arguments, whole.

  The region's operands are the transposed symbols and the encoding without its unit axis. Grid point t reads rows
  1024 t … 1024 t + 1023 of both and writes the same rows of every batch; the eight blocks tile the result.
-/
module

public import proofs.«01_k».proof.Proof.Masked

@[expose] public section

noncomputable section

namespace Cert.Masked

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The result array's claimed contents on device `c`. -/
def result (c : Dev nD) : Buf (Elt F) ((c : Thread nD τ).loc main_v2) :=
  masked (m ((c : Thread nD τ).loc main_arg0)) (m ((c : Thread nD τ).loc main_arg1))

/-- Row `r` of grid point `t`'s block is row 1024 t + r of the array. -/
def row (t : Fin cfg0.N) (r : Fin 1024) : Fin 8192 :=
  ⟨t.val * 1024 + r.val, by have h : t.val < 8 := lt_of_lt_of_eq t.isLt N_0; omega⟩

/-- The three windows' block indices at point `t`: block row `t`, and block 0 on every other axis. -/
theorem index_eq : ∀ t : Fin cfg0.N, win0_0.index t = ![t.val, 0] ∧ win0_1.index t = ![t.val, 0]
    ∧ win0_2.index t = ![0, t.val, 0] :=
  (by decide +kernel : ∀ t : Fin grid0.N, win0_0.index t = ![t.val, 0] ∧ win0_1.index t = ![t.val, 0]
    ∧ win0_2.index t = ![0, t.val, 0])

/-- The symbols' operand is the argument transposed: its element (l, b) is the argument's (b, l). -/
theorem entry_sym (c : Dev nD) (l : Fin 8192) (b : Fin 4) :
    V m c main_v1 (ix2 l b) = m ((c : Thread nD τ).loc main_arg0) (ix2 b l) := by
  entry_read
  pointwise []

/-- The encoding's operand is the argument without its unit axis: its element (l, d) is the argument's (0, l, d). -/
theorem entry_pe (c : Dev nD) (l : Fin 8192) (d : Fin 768) :
    V m c main_v0 (ix2 l d) = m ((c : Thread nD τ).loc main_arg1) (ix3 (0 : Fin 1) l d) := by
  entry_read
  pointwise []

/-- The symbol block at point `t`: its element (r, b) is symbol (b, 1024 t + r). -/
theorem blk_sym (c : Dev nD) (t : Fin cfg0.N) (r : Fin 1024) (b : Fin 4) :
    iblk m c 0 t (ix2 r b) = m ((c : Thread nD τ).loc main_arg0) (ix2 b (row t r)) := by
  rw [← entry_sym m c]
  show V m c main_v1 ((win0_0.rect t).emb (ix2 r b)) = _
  congr 1
  refine funext fun a => Fin.ext ?_
  rw [Pipeline.Window.rect_emb_val win0_0, (index_eq t).1]
  match a with
  | ⟨0, _⟩ => rfl
  | ⟨1, _⟩ => show 0 * 4 + b.val = b.val; omega

/-- The encoding block at point `t`: its element (r, d) is the encoding's (0, 1024 t + r, d). -/
theorem blk_pe (c : Dev nD) (t : Fin cfg0.N) (r : Fin 1024) (d : Fin 768) :
    iblk m c 1 t (ix2 r d) = m ((c : Thread nD τ).loc main_arg1) (ix3 (0 : Fin 1) (row t r) d) := by
  rw [← entry_pe m c]
  show V m c main_v0 ((win0_1.rect t).emb (ix2 r d)) = _
  congr 1
  refine funext fun a => Fin.ext ?_
  rw [Pipeline.Window.rect_emb_val win0_1, (index_eq t).2.1]
  match a with
  | ⟨0, _⟩ => rfl
  | ⟨1, _⟩ => show 0 * 768 + d.val = d.val; omega

/-- Element (b, r, d) of the result's block at point `t` is element (b, 1024 t + r, d) of the array. -/
theorem blk_out (t : Fin cfg0.N) (y : S4x1024x768.Idx) : (win0_2.rect t).emb y = ix3 (y 0) (row t (y 1)) (y 2) := by
  refine funext fun a => Fin.ext ?_
  rw [Pipeline.Window.rect_emb_val win0_2, (index_eq t).2.2]
  match a with
  | ⟨0, _⟩ => show 0 * 4 + (y 0 : Nat) = (y 0 : Nat); omega
  | ⟨1, _⟩ => rfl
  | ⟨2, _⟩ => show 0 * 768 + (y 2 : Nat) = (y 2 : Nat); omega

/-- What point `t` writes back is its block of `result`. -/
theorem flushed_eq (c : Dev nD) (t : Fin cfg0.N) :
    (dats m 0 c).flushed 2 t = ((cfg0.win 2).blk t).view.read (Elt F) (result m c) := by
  rw [Value.flushed2, out_eq]
  funext y
  refine (congrArg₂ elem (blk_pe m c t (y 1) (y 2)) (blk_sym m c t (y 1) (y 0))).trans ?_
  exact (congrArg (result m c) (blk_out t y)).symm

/-- Every index of the result is in the block of the point that its row names. -/
theorem cover (i : S4x8192x768.Idx) :
    ∃ t : Fin cfg0.N, (cfg0.win 2).flush t = true ∧ i ∈ ((cfg0.win 2).blk t).view.set := by
  have h1 : (i 1 : Nat) < 8192 := (i 1).isLt
  have hN : cfg0.N = 8 := N_0
  let t : Fin cfg0.N := ⟨(i 1 : Nat) / 1024, by omega⟩
  let r : Fin 1024 := ⟨(i 1 : Nat) % 1024, by omega⟩
  refine ⟨t, flush0_2 t, ?_⟩
  have e : i = ((cfg0.win 2).blk t).view.emb (ix3 (i 0) r (i 2)) := by
    show i = (win0_2.rect t).emb (ix3 (i 0) r (i 2))
    rw [blk_out]
    refine funext fun a => Fin.ext ?_
    match a with
    | ⟨0, _⟩ => rfl
    | ⟨1, _⟩ => show (i 1 : Nat) = (i 1 : Nat) / 1024 * 1024 + (i 1 : Nat) % 1024; omega
    | ⟨2, _⟩ => rfl
  rw [e]
  exact View.emb_mem_set _ _

/-- So the result array ends at `result`, -/
theorem final (c : Dev nD) : (dats m 0 c).arrAt 2 cfg0.N = result m c :=
  (dats m 0 c).arrAt_eq_of_cover 2 (result m c) (fun t _ => flushed_eq m c t) cover

/-- and the run of the kernel, read: the result at `result`, the arguments unchanged, at any float instance. -/
theorem run_kernel : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Masked

end
-- ==== Proof.Refer.lean ====
/-
  What the reference computes: the tiled encoding gathered at (batch, position), times the 0/1 mask — `masked` of
  the arguments, provided the bit of a comparison converts to the same float whether it is widened to a word first
  (`Widens`, true at both instances).
-/
module

public import proofs.«01_k».proof.Proof.Masked
public import proofs.«01_k».proof.Proof.Gen.ReferenceIdeal.Run
public import Idealize.ShloMosaic.Lib.Routing.Ops

@[expose] public section

noncomputable section

namespace Cert.Masked

open Idealize.ShloMosaic Idealize.ShloMosaic.TcCoe Idealize.SL.Sem

/-- A one-bit value converts to the same float as an unsigned bit and as a signed word that it is widened to. -/
def Widens (F : FTy → Type) [FloatOps F] : Prop :=
  ∀ b : BitVec 1, (FloatOps.uitofp .f32 b : F .f32) = FloatOps.sitofp .f32 (b.setWidth 32)

/-- At the bit-exact instance both are the word of 0.0 or 1.0. -/
theorem widens_bits : Widens Bits := by
  intro b
  have h : (b.toNat : Int) = (b.setWidth 32).toInt := by revert b; decide
  show Bits.uitofp32 b = Bits.sitofp32 (b.setWidth 32)
  unfold Bits.uitofp32 Bits.sitofp32
  rw [h]

/-- At the ideal instance both are the number 0 or 1. -/
theorem widens_ideal : Widens Ideal := by
  intro b
  have h : (b.toNat : Int) = (b.setWidth 32).toInt := by revert b; decide
  show ((b.toNat : ℝ) : EReal) = (((b.setWidth 32).toInt : ℝ) : EReal)
  rw [← h, Int.cast_natCast]

section Reference

open Cert.ReferenceIdeal Cert.ReferenceIdeal.Gen

variable {F : FTy → Type} [FloatOps F]

/-- A natural number below 2³¹, as a 32-bit word, reads back signed as itself. -/
theorem toInt_ofNat (n : Nat) (hn : n < 2 ^ 31) : (BitVec.ofNat 32 n).toInt = (n : Int) := by
  rw [BitVec.toInt_eq_toNat_of_lt (by rw [BitVec.toNat_ofNat]; omega), BitVec.toNat_ofNat]
  omega

/-- A 32-bit index below 2³¹ is not negative: the wrap of negative indices leaves it. -/
theorem wrap (n : Nat) (k : BitVec 32) (hn : n < 2 ^ 31) :
    Scalar.select (IntOp.cmpi .slt (BitVec.ofNat 32 n) 0#32) (IntOp.addi (BitVec.ofNat 32 n) k) (BitVec.ofNat 32 n)
      = BitVec.ofNat 32 n := by
  have h : IntOp.cmpi .slt (BitVec.ofNat 32 n) 0#32 = 0#1 := by
    show BitVec.ofBool ((BitVec.ofNat 32 n).slt 0#32) = 0#1
    rw [BitVec.slt, toInt_ofNat n hn]
    have e : ¬ ((n : Int) < (0#32).toInt) := by show ¬ ((n : Int) < 0); omega
    rw [decide_eq_false e]
    rfl
  rw [h]
  rfl

/-- The reference's gather: one encoding row per start index pair (batch, position). -/
abbrev dims := gather_S4x8192x768_S4x8192x2_S4x8192x768_2_01_n_n_01_2_11768

/-- The gather of one row per (batch, position) pair, at start indices that are the pair itself, changes nothing. -/
theorem gather_apply (x : FVec F S4x8192x768 .f32) (idx : IVec S4x8192x2 32)
    (h0 : ∀ (b : Fin 4) (l : Fin 8192), idx (ix3 b l (0 : Fin 2)) = BitVec.ofNat 32 b.val)
    (h1 : ∀ (b : Fin 4) (l : Fin 8192), idx (ix3 b l (1 : Fin 2)) = BitVec.ofNat 32 l.val)
    (b : Fin 4) (l : Fin 8192) (d : Fin 768) :
    Host.gather dims x idx (ix3 b l d) = x (ix3 b l d) := by
  unfold Host.gather
  refine congrArg x (funext fun a => Fin.ext ?_)
  have s0 (h) : dims.siIdx (ix3 b l d) ⟨0, h⟩ = ix3 b l (0 : Fin 2) := by
    refine funext fun a => Fin.ext ?_
    match a with
    | ⟨0, _⟩ => rfl
    | ⟨1, _⟩ => rfl
    | ⟨2, _⟩ => rfl
  have s1 (h) : dims.siIdx (ix3 b l d) ⟨1, h⟩ = ix3 b l (1 : Fin 2) := by
    refine funext fun a => Fin.ext ?_
    match a with
    | ⟨0, _⟩ => rfl
    | ⟨1, _⟩ => rfl
    | ⟨2, _⟩ => rfl
  show dims.start (ix3 b l d) idx a + dims.batchCoord (ix3 b l d) a + dims.offCoord (ix3 b l d) a = _
  rw [dims.batchCoord_eq_zero _ _ List.not_mem_nil]
  have k0 : (0 : Fin 3) ∉ dims.sKept := by decide
  have k1 : (1 : Fin 3) ∉ dims.sKept := by decide
  match a with
  | ⟨0, _⟩ =>
    rw [show dims.offCoord (ix3 b l d) ⟨0, _⟩ = 0 from dims.offCoord_eq_zero _ _ k0]
    refine (congrArg (fun j => min (idx j).toInt.toNat 3) (s0 (by decide))).trans ?_
    show min (idx (ix3 b l (0 : Fin 2))).toInt.toNat 3 = b.val
    rw [h0, toInt_ofNat _ (by omega)]
    omega
  | ⟨1, _⟩ =>
    rw [show dims.offCoord (ix3 b l d) ⟨1, _⟩ = 0 from dims.offCoord_eq_zero _ _ k1]
    refine (congrArg (fun j => min (idx j).toInt.toNat 8191) (s1 (by decide))).trans ?_
    show min (idx (ix3 b l (1 : Fin 2))).toInt.toNat 8191 = l.val
    rw [h1, toInt_ofNat _ (by omega)]
    omega
  | ⟨2, _⟩ =>
    show 0 + 0 + d.val = d.val
    omega

/-- The tiled encoding at an index: every batch row is the encoding. -/
theorem tile_apply (pe : FVec F S1x8192x768 .f32) (b : Fin 4) (l : Fin 8192) (d : Fin 768) :
    shapeCast S4x8192x768 (broadcastInDim S4x1x1x8192x1x768 ![0, 1, 2, 3, 4, 5] bcast_S1x1x1x8192x1x768_S4x1x1x8192x1x768_0_1_2_3_4_5
      (shapeCast S1x1x1x8192x1x768 pe shapeCasts_S1x8192x768_S1x1x1x8192x1x768)) shapeCasts_S4x1x1x8192x1x768_S4x8192x768 (ix3 b l d)
      = pe (ix3 (0 : Fin 1) l d) := by
  pointwise []

variable (m : (ℓ : Loc nD τ sig) → Buf (Elt F) ℓ) (ρ : Dev nD → PrngReg)

/-- The reference's run, read: the result at `masked` of the arguments, the arguments unchanged. -/
theorem run_reference (hF : Widens F) : θ_run defs (onTc (τ := τ) (main (F := F))) ⟨m, fun _ => 0, ρ⟩ fun r => ∀ c : Dev nD,
      r.2.mem ((c : Thread nD τ).loc main_v27)
        = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  funext i
  obtain ⟨b, l, d, rfl⟩ : ∃ (b : Fin 4) (l : Fin 8192) (d : Fin 768), i = ix3 b l d := ⟨i 0, i 1, i 2, eq_ix3 i⟩
  rw [mulf_apply]
  rw [gather_apply, tile_apply]
  · pointwise [masked, elem]
    rw [hF]
  · intro b l
    pointwise []
    exact wrap _ _ (by omega)
  · intro b l
    pointwise []
    exact wrap _ _ (by omega)

end Reference

end Cert.Masked

end
-- ==== Proof.Bitwise.lean ====
/-
  The same two runs over the modules of the bit-exact claim. `Kernel` and `Reference` are printed from the same text as
  `KernelIdeal` and `ReferenceIdeal` (nothing was idealized), and the runs were read at every float instance.
-/
module

public import proofs.«01_k».proof.Proof.Array
public import proofs.«01_k».proof.Proof.Refer
public import proofs.«01_k».proof.Proof.Gen.Kernel.Value
public import proofs.«01_k».proof.Proof.Gen.Reference.Run

@[expose] public section

noncomputable section

namespace Cert.Masked

open Idealize.ShloMosaic Idealize.ShloMosaic.TcCoe Idealize.SL.Sem

variable {F : FTy → Type} [FloatOps F]

/-- The two kernel modules' body tables are the same: one body, and no other label. -/
theorem bodies_eq : Kernel.defs₀ (F := F) = KernelIdeal.defs₀ (F := F) := by
  unfold Kernel.defs₀ KernelIdeal.defs₀
  refine congrArg Defs.onTc ?_
  funext l a
  match l, a with
  | ⟨0, _⟩, (t, s) => rfl
  | ⟨_ + 1, h⟩, _ => exact absurd h (Nat.not_lt.2 (Nat.le_add_left _ _))

/-- So their whole tables are. -/
theorem defs_eq : Kernel.defs (F := F) = KernelIdeal.defs (F := F) :=
  congrArg (Pipeline.defs KernelIdeal.pcfgs) bodies_eq

/-- `Kernel`'s result array's claimed contents on device `c`. -/
def resultBits (m : (ℓ : Loc Kernel.nD Kernel.τ Kernel.sig) → Buf (Elt F) ℓ) (c : Dev Kernel.nD) :
    Buf (Elt F) ((c : Thread Kernel.nD Kernel.τ).loc Kernel.main_v2) :=
  masked (m ((c : Thread Kernel.nD Kernel.τ).loc Kernel.main_arg0)) (m ((c : Thread Kernel.nD Kernel.τ).loc Kernel.main_arg1))

/-- `Kernel`'s run: the result array ends at `masked` of the arguments, the arguments unchanged. -/
theorem run_kernel_bits (m : (ℓ : Loc Kernel.nD Kernel.τ Kernel.sig) → Buf (Elt F) ℓ) (ρ : Dev Kernel.nD → PrngReg) :
    θ_run Kernel.defs (onTc (τ := Kernel.τ) (Kernel.main (F := F))) ⟨m, fun _ => 0, ρ⟩ fun r => ∀ c : Dev Kernel.nD,
      r.2.mem ((c : Thread Kernel.nD Kernel.τ).loc Kernel.main_v2) = resultBits m c
      ∧ r.2.mem ((c : Thread Kernel.nD Kernel.τ).loc Kernel.main_arg0) = m ((c : Thread Kernel.nD Kernel.τ).loc Kernel.main_arg0)
      ∧ r.2.mem ((c : Thread Kernel.nD Kernel.τ).loc Kernel.main_arg1) = m ((c : Thread Kernel.nD Kernel.τ).loc Kernel.main_arg1) := by
  rw [defs_eq]
  exact run_kernel (F := F) m ρ

/-- `Reference`'s run: the same array of its own arguments, the arguments unchanged. -/
theorem run_reference_bits (hF : Widens F) (m : (ℓ : Loc Reference.nD Reference.τ Reference.sig) → Buf (Elt F) ℓ)
    (ρ : Dev Reference.nD → PrngReg) :
    θ_run Reference.defs (onTc (τ := Reference.τ) (Reference.main (F := F))) ⟨m, fun _ => 0, ρ⟩ fun r => ∀ c : Dev Reference.nD,
      r.2.mem ((c : Thread Reference.nD Reference.τ).loc Reference.main_v27)
        = masked (m ((c : Thread Reference.nD Reference.τ).loc Reference.main_arg0))
            (m ((c : Thread Reference.nD Reference.τ).loc Reference.main_arg1))
      ∧ r.2.mem ((c : Thread Reference.nD Reference.τ).loc Reference.main_arg0) = m ((c : Thread Reference.nD Reference.τ).loc Reference.main_arg0)
      ∧ r.2.mem ((c : Thread Reference.nD Reference.τ).loc Reference.main_arg1) = m ((c : Thread Reference.nD Reference.τ).loc Reference.main_arg1) :=
  run_reference (F := F) m ρ hF

end Cert.Masked

end
-- ==== Proof.lean ====
/-
  The certificate: every program runs, leaves its arguments and every semaphore counter as they were, and the kernel's
  result array equals the reference's on all inputs, over the extended reals and word for word.

  Both programs' results are `masked` of the arguments (Proof/Masked.lean): the kernel's in Proof/Array.lean, the
  reference's in Proof/Refer.lean, both at every float instance; Proof/Bitwise.lean restates them for the bit-exact claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel.Value
public import proofs.«01_k».proof.Proof.Gen.KernelIdeal.Value
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Array
public import proofs.«01_k».proof.Proof.Refer
public import proofs.«01_k».proof.Proof.Bitwise
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Masked

/-- The kernel's frames, at the machine words and over the extended reals. -/
theorem frame_kernel : Cert.quiescent_Kernel := fun m ρ _ => Cert.Kernel.Gen.frame m ρ
theorem frame_kernelIdeal : Cert.quiescent_KernelIdeal := fun m ρ _ => Cert.KernelIdeal.Gen.frame m ρ

/-- The reference's frames: its run read at the arguments; it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)
theorem frame_reference : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- The idealization rewrote no operation. -/
theorem preserves : Cert.preserves_Kernel_KernelIdeal := trivial

/-- Over the extended reals, on arguments that agree, the two result arrays are equal whole. -/
theorem algebraic : Cert.algebraic_KernelIdeal_ReferenceIdeal := by
  intro m ρ m' ρ' _ hagree
  refine ⟨fun c => result m c, run_kernel (F := Ideal) m ρ, ?_⟩
  refine (θ_run Cert.ReferenceIdeal.defs _ _).mono (fun _ h c => ⟨(h c).1.trans ?_, (h c).2⟩)
    (run_reference (F := Ideal) m' ρ' widens_ideal)
  rw [(hagree c).1, (hagree c).2]
  rfl

/-- At the machine words the two result arrays are equal whole: the same product of the same words. -/
theorem bitexact : Cert.bitexact_Kernel_Reference := by
  intro m ρ m' ρ' _ hagree
  refine ⟨fun c => resultBits m c, run_kernel_bits (F := Bits) m ρ, ?_⟩
  refine (θ_run Cert.Reference.defs _ _).mono (fun _ h c => ⟨(h c).1.trans ?_, (h c).2⟩)
    (run_reference_bits (F := Bits) widens_bits m' ρ')
  rw [(hagree c).1, (hagree c).2]
  rfl

/-- Every claim of the certificate. -/
theorem claim : Cert.Claim := ⟨Cert.Kernel.Gen.facts, Cert.KernelIdeal.Gen.facts, Cert.ReferenceIdeal.Gen.facts,
  Cert.Reference.Gen.facts, frame_kernel, frame_kernelIdeal, frame_referenceIdeal, frame_reference, preserves, algebraic,
  bitexact⟩

end Cert.Proof

end
